-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg" .f32 0xFF61B1E6#32 ⊥

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x1000 : Shape := ⟨2, ![16384, 1000]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x1000 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384x1000 : Shape := ⟨2, ![16384, 1000]⟩
abbrev S16384 : Shape := ⟨1, ![16384]⟩
abbrev S16384000 : Shape := ⟨1, ![16384000]⟩
abbrev S16000 : Shape := ⟨1, ![16000]⟩
abbrev S512 : Shape := ⟨1, ![512]⟩
abbrev S_ : Shape := ⟨0, ![]⟩
abbrev S16 : Shape := ⟨1, ![16]⟩

abbrev nBuf : Table → Nat
  | .hbm => 4
  | .local .scVector .vmem => 3
  | _ => 0

abbrev bufTy : (tb : Table) → Fin (nBuf tb) → BufTy
  | .hbm, ⟨0, _⟩ => ⟨S16384x1000, .f32⟩
  | .hbm, ⟨1, _⟩ => ⟨S16384, .i32⟩
  | .hbm, ⟨2, _⟩ => ⟨S16384000, .f32⟩
  | .hbm, ⟨3, _⟩ => ⟨S16384, .f32⟩
  | .local .scVector .vmem, ⟨0, _⟩ => ⟨S16000, .f32⟩
  | .local .scVector .vmem, ⟨1, _⟩ => ⟨S512, .i32⟩
  | .local .scVector .vmem, ⟨2, _⟩ => ⟨S512, .f32⟩
  | _, _ => ⟨S16384x1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v7 : BitVec 32 := Scalar.addi c0_i32_0 c32_i32
  let c1_i32 : BitVec 32 := 1#32
  ⟨c0_i32_0, v7, c1_i32⟩
def k0_off2 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let c0_i32_0 : BitVec 32 := 0#32
  let c1_i32 : BitVec 32 := 1#32
  let arg8 : BitVec 32 := Scf.iv c0_i32_0 c1_i32 k0_t1
  let c16_i32_2 : BitVec 32 := 16#32
  let v8 : BitVec 32 := Scalar.muli arg8 c16_i32_2
  let v9 : BitVec 32 := Scalar.addi v2 v8
  let c1000_i32_3 : BitVec 32 := 1000#32
  let v10 : BitVec 32 := Scalar.muli v9 c1000_i32_3
  ![v10.toNat]
@[reducible] def k0_t2_loop : Scf.Loop 32 :=
  let c0_i32_4 : BitVec 32 := 0#32
  let c1000_i32_5 : BitVec 32 := 1000#32
  let v11 : BitVec 32 := Scalar.addi c0_i32_4 c1000_i32_5
  let c1_i32_6 : BitVec 32 := 1#32
  ⟨c0_i32_4, v11, c1_i32_6⟩

def k0_chk1 (arg13 : IVec S16 32) : Prop :=
  (∀ a x, ((![arg13] : Fin 1 → IVec S16 32) a x).toNat < S16000.size a)
theorem k0_idx1_inb : ∀ (arg13 : IVec S16 32) (k0_hw1 : k0_chk1 arg13), ∀ a x, ((![arg13] : Fin 1 → IVec S16 32) a x).toNat < S16000.size a := fun arg13 k0_hw1 => k0_hw1
def k0_off3 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32_8 : BitVec 32 := 16#32
  let v13 : BitVec 32 := Scalar.muli arg8 c16_i32_8
  let v14 : Index := Scalar.indexCast v13
  ![v14.toNat]

def k0_chk2 (v16 : IVec S16 32) : Prop :=
  (∀ a x, ((![v16] : Fin 1 → IVec S16 32) a x).toNat < S16000.size a)
theorem k0_idx2_inb : ∀ (v16 : IVec S16 32) (k0_hw2 : k0_chk2 v16), ∀ a x, ((![v16] : Fin 1 → IVec S16 32) a x).toNat < S16000.size a := fun v16 k0_hw2 => k0_hw2
def k0_off4 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32_10 : BitVec 32 := 16#32
  let v25 : BitVec 32 := Scalar.muli arg8 c16_i32_10
  let v26 : Index := Scalar.indexCast v25
  ![v26.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S16384x1000 : Shape := ⟨2, ![16384, 1000]⟩
abbrev S16384 : Shape := ⟨1, ![16384]⟩
abbrev S16384x1 : Shape := ⟨2, ![16384, 1]⟩
abbrev S_ : Shape := ⟨0, ![]⟩
abbrev S16384x2 : Shape := ⟨2, ![16384, 2]⟩

abbrev nBuf : Space → Nat
  | .hbm => 50
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S16384x1000, .f32⟩
  | .hbm, ⟨3, _⟩ => ⟨S16384x1000, .i32⟩
  | .hbm, ⟨4, _⟩ => ⟨S16384x1000, .f32⟩
  | .hbm, ⟨5, _⟩ => ⟨S16384x1000, .i32⟩
  | .hbm, ⟨6, _⟩ => ⟨S16384x1, .i32⟩
  | .hbm, ⟨7, _⟩ => ⟨S16384, .i32⟩
  | .hbm, ⟨8, _⟩ => ⟨S16384, .i1⟩
  | .hbm, ⟨9, _⟩ => ⟨S16384, .f32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S16384x1, .i32⟩
  | .hbm, ⟨27, _⟩ => ⟨S16384x2, .i32⟩
  | .hbm, ⟨28, _⟩ => ⟨S16384, .f32⟩
  | .hbm, ⟨29, _⟩ => ⟨S16384x1, .f32⟩
  | .hbm, ⟨30, _⟩ => ⟨S16384, .f32⟩
  | .hbm, ⟨31, _⟩ => ⟨S16384, .f32⟩
  | .hbm, ⟨32, _⟩ => ⟨S16384, .f32⟩
  | .hbm, ⟨33, _⟩ => ⟨S16384x1, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S16384, .f32⟩
  | .hbm, ⟨40, _⟩ => ⟨S16384, .f32⟩
  | .hbm, ⟨41, _⟩ => ⟨S16384x1, .f32⟩
  | .hbm, ⟨42, _⟩ => ⟨S16384, .f32⟩
  | .hbm, ⟨43, _⟩ => ⟨S16384x1, .f32⟩
  | .hbm, ⟨44, _⟩ => ⟨S16384, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call1_v0 : Ref sig .tc := ⟨.hbm, 3, rfl⟩
abbrev main_call1_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Proof.Spec.lean ====
/-
  What one row of the kernel's result is, over any float values: the three largest elements of the row, kept by
  a running maximum (`top3`), and the quotient the kernel forms from them and the row's target element
  (`rowOut`); and the kernel's vector payloads as sixteen of these at once, one row a lane.
-/
module

public import proofs.«01_k».proof.Defs
public import proofs.«01_k».proof.Proof.Gen.KernelIdeal
public import proofs.«01_k».proof.Proof.Gen.KernelIdeal.Skeleton

@[expose] public section

noncomputable section

namespace Cert.Proof.Margin

open Cert.KernelIdeal Cert.KernelIdeal.Gen
open Idealize.ShloMosaic

/-! ## Reading a one-axis buffer at a number -/

/-- Element `n` of contents over a shape (of one axis, in use): `n` wrapped at the axis' size. -/
def at1 {s : Shape} {α : Type} (hs : ∀ a, 0 < s.size a) (f : s.Idx → α) (n : ℕ) : α :=
  f fun a => ⟨n % s.size a, Nat.mod_lt _ (hs a)⟩

/-- The element at an index is `at1` at the index's number. -/
theorem at1_of {s : Shape} {α : Type} (hs : ∀ a, 0 < s.size a) (f : s.Idx → α) (n : ℕ) (j : s.Idx) (h : ∀ a, (j a).val = n) :
    f j = at1 hs f n := by
  unfold at1; congr 1; funext a; apply Fin.ext
  show (j a).val = n % s.size a
  rw [← h a, Nat.mod_eq_of_lt (j a).isLt]

theorem pos_flat : ∀ a, 0 < S16384000.size a := by decide
theorem pos_chunk : ∀ a, 0 < S16000.size a := by decide

variable {F : FTy → Type} [FloatOps F] [Named F]

/-! ## One row -/

/-- The starting value of the three running maxima: the kernel's named stand-in for minus infinity. -/
def neg : F .f32 := Named.named κ "neg" 0xFF61B1E6#32

/-- The three largest of the first `k` elements of a row, largest first. -/
def top3 (g : ℕ → F .f32) : ℕ → F .f32 × F .f32 × F .f32
  | 0 => (neg, neg, neg)
  | k + 1 =>
    (FloatOps.maximumf (top3 g k).1 (g k),
      FloatOps.maximumf (top3 g k).2.1 (FloatOps.minimumf (top3 g k).1 (g k)),
      FloatOps.maximumf (top3 g k).2.2 (FloatOps.minimumf (top3 g k).2.1 (FloatOps.minimumf (top3 g k).1 (g k))))

/-- The quotient formed from the three largest elements of a row and its target element. -/
def quot (a1 a2 a3 tl : F .f32) : F .f32 :=
  FloatOps.divf (FloatOps.subf (Scalar.select (FloatOps.cmpf .oeq tl a1) a2 a1) tl)
    (FloatOps.addf (FloatOps.subf a1 a3) (Scalar.ofBits .f32 0x2B8CBCCC#32))

/-- The result of a row of 1000 elements whose target is element `t`. -/
def rowOut (g : ℕ → F .f32) (t : ℕ) : F .f32 :=
  quot (top3 g 1000).1 (top3 g 1000).2.1 (top3 g 1000).2.2 (g t)

/-- Row `n` of the flat array. -/
def rowG (y : S16384000.Idx → F .f32) (n : ℕ) : ℕ → F .f32 := fun c => at1 pos_flat y (n * 1000 + c)

/-- The whole result: every row's. -/
def out (y : S16384000.Idx → F .f32) (t : S16384.Idx → BitVec 32) : S16384.Idx → F .f32 :=
  fun r => rowOut (rowG y (r 0).val) (t r).toNat

/-! ## Sixteen rows at once -/

/-- The positions of column `k` of sixteen consecutive rows in a buffer holding them. -/
def lanes (k : ℕ) : IVec S16 32 := fun l => BitVec.ofNat 32 ((l 0).val * 1000 + k)

theorem lanes_toNat (k : ℕ) (hk : k ≤ 1000) (l : S16.Idx) : (lanes k l).toNat = (l 0).val * 1000 + k := by
  have : (l 0).val < 16 := (l 0).isLt
  unfold lanes; rw [BitVec.toNat_ofNat]; omega

theorem pay1_eq : k0_pay1 = lanes 0 := by
  unfold k0_pay1 lanes
  funext l
  simp only [muli, iota, broadcast, IntOp.muli]
  apply BitVec.eq_of_toNat_eq
  have : (l 0).val < 16 := (l 0).isLt
  simp [BitVec.toNat_mul, BitVec.toNat_ofNat]

theorem pay7_eq (k : ℕ) : k0_pay7 (lanes k) = lanes (k + 1) := by
  unfold k0_pay7 lanes
  funext l
  simp only [addi, broadcast, IntOp.addi]
  exact (BitVec.ofNat_add ((l 0).val * 1000 + k) 1).symm

/-- The columns' loop's state after `k` columns, for sixteen rows `g`. -/
def state (g : S16.Idx → ℕ → F .f32) (k : ℕ) : FVec F S16 .f32 × FVec F S16 .f32 × FVec F S16 .f32 × IVec S16 32 :=
  (fun l => (top3 (g l) k).1, fun l => (top3 (g l) k).2.1, fun l => (top3 (g l) k).2.2, lanes k)

theorem state_zero (g : S16.Idx → ℕ → F .f32) : ((k0_pay2 (F := F)), k0_pay2 (F := F), k0_pay2 (F := F), k0_pay1) = state g 0 := by
  rw [pay1_eq]; rfl

theorem state_succ (g : S16.Idx → ℕ → F .f32) (k : ℕ) (v : Vec F S16 .f32) (hv : v = fun l => g l k) :
    (k0_pay4 (state g k).1 v, k0_pay5 (state g k).1 (state g k).2.1 v, k0_pay6 (state g k).1 (state g k).2.1 (state g k).2.2.1 v, k0_pay7 (state g k).2.2.2)
      = state g (k + 1) := by
  subst hv
  show (_, _, _, k0_pay7 (lanes k)) = _
  rw [pay7_eq]; rfl

theorem pay8_eq (a1 a2 a3 : FVec F S16 .f32) (v : Vec F S16 .f32) : k0_pay8 a1 a2 a3 v = fun l => quot (a1 l) (a2 l) (a3 l) (v l) := rfl

end Cert.Proof.Margin

end
-- ==== Proof.Tile.lean ====
/-
  One tile's task of the launch, over any float values: the fetch of its 512 targets, its 32 trips — the fetch of
  sixteen rows, the running three largest over their 1000 columns, the target elements, the quotient stored — and the
  write-out of its 512 results; from a share of the flat array and of the targets and its block of the result, which
  comes back at the rows' results (`out`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Spec

@[expose] public section

noncomputable section

namespace Cert.Proof.Margin

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev aLoc (d : Dev nD) : Loc nD τ sig := (SparseCore.T d).loc main_arg0
abbrev tLoc (d : Dev nD) : Loc nD τ sig := (SparseCore.T d).loc main_arg1
abbrev yLoc (d : Dev nD) : Loc nD τ sig := (SparseCore.T d).loc main_v0
abbrev oLoc (d : Dev nD) : Loc nD τ sig := (SparseCore.T d).loc main_v1

local notation "yV" => (Memref.whole Cert.KernelIdeal.main_v0_scv : Memref Cert.KernelIdeal.sig Kind.scVector Space.hbm Cert.KernelIdeal.S16384000 EltTy.f32)
local notation "tV" => (Memref.whole Cert.KernelIdeal.main_arg1_scv : Memref Cert.KernelIdeal.sig Kind.scVector Space.hbm Cert.KernelIdeal.S16384 EltTy.i32)
local notation "oV" => (Memref.whole Cert.KernelIdeal.main_v1_scv : Memref Cert.KernelIdeal.sig Kind.scVector Space.hbm Cert.KernelIdeal.S16384 EltTy.f32)
local notation "sX" => (Memref.whole Cert.KernelIdeal.cc0_scratch0 : Memref Cert.KernelIdeal.sig Kind.scVector Space.vmem Cert.KernelIdeal.S16000 EltTy.f32)
local notation "sT" => (Memref.whole Cert.KernelIdeal.cc0_scratch1 : Memref Cert.KernelIdeal.sig Kind.scVector Space.vmem Cert.KernelIdeal.S512 EltTy.i32)
local notation "sO" => (Memref.whole Cert.KernelIdeal.cc0_scratch2 : Memref Cert.KernelIdeal.sig Kind.scVector Space.vmem Cert.KernelIdeal.S512 EltTy.f32)

variable (d : Dev nD) (L : grid0.Coords)

abbrev cV (L : grid0.Coords) : Fin τ.nSC := (L 0).castLE hcore0
abbrev jV (L : grid0.Coords) : Fin τ.nSub := (L 1).castLE hsub0

/-- The tile's first row. -/
abbrev base (L : grid0.Coords) : ℕ := 8192 * (L 0).val + 512 * (L 1).val

/-- The tile's block of the targets, of the result, and the sixteen rows of trip `k`, as it addresses them. -/
abbrev tRowK (L : grid0.Coords) : Memref sig .scVector .hbm S512 .i32 := (tV).slice (Rect.unit (s := S16384) (k0_off1 L) S512.size (k0_off1_inb L)) (fun _ => rfl)
abbrev oRowK (L : grid0.Coords) : Memref sig .scVector .hbm S512 .f32 := (oV).slice (Rect.unit (s := S16384) (k0_off1 L) S512.size (k0_off1_inb L)) (fun _ => rfl)
abbrev yRowK (L : grid0.Coords) (k : Fin k0_t1_loop.trips) : Memref sig .scVector .hbm S16000 .f32 :=
  (yV).slice (Rect.unit (s := S16384000) (k0_off2 L k) S16000.size (k0_off2_inb L k)) (fun _ => rfl)

theorem trips1 : k0_t1_loop.trips = 32 := by decide
theorem trips2 : k0_t2_loop.trips = 1000 := by decide +kernel

omit [FloatOps F] [Named F] in
theorem oRowK_emb (j : S512.Idx) (a : Fin 1) : (((oRowK L).view.emb j) a).val = base L + (j 0).val := by
  obtain rfl : a = 0 := Subsingleton.elim _ _
  show k0_off1 L 0 + 1 * (j 0).val = _
  rw [k0_off1_eq]; simp

omit [FloatOps F] [Named F] in
theorem tRowK_emb (j : S512.Idx) (a : Fin 1) : (((tRowK L).view.emb j) a).val = base L + (j 0).val := by
  obtain rfl : a = 0 := Subsingleton.elim _ _
  show k0_off1 L 0 + 1 * (j 0).val = _
  rw [k0_off1_eq]; simp

omit [FloatOps F] [Named F] in
theorem yRowK_emb (k : Fin k0_t1_loop.trips) (j : S16000.Idx) (a : Fin 1) :
    (((yRowK L k).view.emb j) a).val = (base L + 16 * k.val) * 1000 + (j 0).val := by
  obtain rfl : a = 0 := Subsingleton.elim _ _
  show k0_off2 L k 0 + 1 * (j 0).val = _
  rw [k0_off2_eq]; simp [base]; omega

/-- The sixteen rows trip `k` works on. -/
abbrev rows (y : S16384000.Idx → F .f32) (L : grid0.Coords) (k : ℕ) : S16.Idx → ℕ → F .f32 :=
  fun l => rowG y (base L + 16 * k + (l 0).val)

/-- What trip `k` fetches: its sixteen rows, one after another. -/
theorem chunk_at (y : S16384000.Idx → F .f32) (k : Fin k0_t1_loop.trips) (j : S16000.Idx) (l : S16.Idx) (c : ℕ) (hj : (j 0).val = (l 0).val * 1000 + c) :
    (yRowK L k).view.read (Elt F) y j = rows y L k.val l c := by
  rw [show (yRowK L k).view.read (Elt F) y j = y ((yRowK L k).view.emb j) from (View.read_apply _ _).trans (cast_eq _ _)]
  refine at1_of pos_flat y _ _ fun a => ?_
  rw [yRowK_emb, hj]; ring

/-- The positions of a column are positions of the buffer holding sixteen rows. -/
theorem chk1_lanes (k : ℕ) (hk : k < 1000) : k0_chk1 (lanes k) := by
  intro a l
  obtain rfl : a = 0 := Subsingleton.elim _ _
  show (lanes k l).toNat < 16000
  have : (l 0).val < 16 := (l 0).isLt
  rw [lanes_toNat k hk.le]; omega

omit [FloatOps F] [Named F] in
/-- The fetched rows' buffer read through its whole rectangle is itself. -/
theorem read_access (f : S16000.Idx → F .f32) (j : S16000.Idx) : ((sX).access (.whole S16000)).read (Elt F) f j = f j := by
  refine (View.read_apply _ _).trans ((cast_eq _ _).trans (congrArg f ?_))
  funext a; apply Fin.ext
  show 0 + 1 * (j a).val = (j a).val
  omega

/-- Gathering one element of each of the sixteen fetched rows, at positions within their rows. -/
theorem gather_rows (y : S16384000.Idx → F .f32) (t : Fin k0_t1_loop.trips) (p : IVec S16 32) (c : S16.Idx → ℕ)
    (hp : ∀ l, (p l).toNat = (l 0).val * 1000 + c l) (h) :
    loadIdx (((sX).access (.whole S16000)).read (Elt F) ((yRowK L t).view.read (Elt F) y : S16000.Idx → F .f32)) ![p] h
      = fun l : S16.Idx => rows y L t.val l (c l) := by
  funext l
  refine (read_access _ _).trans (chunk_at L y t _ l (c l) ?_)
  exact hp l

/-- The columns' loop's invariant: the fetched rows, the state the three largest after `k` columns. -/
def colInv (y : S16384000.Idx → F .f32) (t : Fin k0_t1_loop.trips) (k : ℕ)
    (acc : FVec F S16 .f32 × FVec F S16 .f32 × FVec F S16 .f32 × IVec S16 32) : sProp 𝕄 :=
  iprop(⌜acc = state (rows y L t.val) k⌝ ∗ (sX).view.loc (V d (cV L) (jV L)) ↦{fullShare} ((yRowK L t).view.read (Elt F) y : S16000.Idx → F .f32))

set_option maxHeartbeats 4000000 in
/-- One column. -/
theorem col_step (y : S16384000.Idx → F .f32) (t : Fin k0_t1_loop.trips) (k : Fin k0_t2_loop.trips)
    (acc : FVec F S16 .f32 × FVec F S16 .f32 × FVec F S16 .f32 × IVec S16 32) :
    colInv d L y t k.val acc
      ⊢ wp frame (wpE (defs₀ (F := F)) 𝒱₀ (V d (cV L) (jV L)) none) Set.univ
          (k0_t2_body L yV (Memref.isWhole_whole _) tV (Memref.isWhole_whole _) oV (Memref.isWhole_whole _)
            sX (Memref.isWhole_whole _) sT (Memref.isWhole_whole _) sO (Memref.isWhole_whole _) cc0_scoped0 cc0_scoped1 cc0_scoped2 k acc)
          fun acc' => colInv d L y t (k.val + 1) acc' := by
  have hk : k.val < 1000 := trips2 ▸ k.isLt
  unfold colInv
  iintro ⟨%hacc, Hx⟩
  subst hacc
  unfold k0_t2_body
  simp only [state, Prog.lift, Prog.bind_op, Prog.bind_ret, Prog.pure_eq_ret]
  rw [wp_assume_of _ _ _ _ (chk1_lanes k.val hk)]
  ihave Hx' := (Entails.of_eq (show ((sX).view.loc (V d (cV L) (jV L)) ↦{fullShare} ((yRowK L t).view.read (Elt F) y : S16000.Idx → F .f32) : sProp 𝕄)
      = ((sX).access (.whole S16000)).loc (V d (cV L) (jV L)) ↦{fullShare} ((yRowK L t).view.read (Elt F) y : S16000.Idx → F .f32) from rfl)) $$ Hx
  iapply (SparseCore.wp_vectorLoadIdx 𝒱₀ (V d (cV L) (jV L)) none Set.univ (base := sX) (S := Finset.univ) (q := fullShare) (Finset.subset_univ _)) $$ Hx'
  iintro Hx'
  sl_step
  isplitr
  · ipureintro
    exact state_succ (rows y L t.val) k.val _ (gather_rows L y t (lanes k.val) (fun _ => k.val) (lanes_toNat k.val hk.le)
      (k0_idx1_inb _ (chk1_lanes k.val hk)))
  · iexact Hx'

/-- The target of row `l` of trip `k`. -/
def tgt (t : S16384.Idx → BitVec 32) (k : ℕ) (l : S16.Idx) : ℕ := (at1 (by decide) t (base L + 16 * k + (l 0).val)).toNat

omit [FloatOps F] [Named F] in
theorem tgt_of (t : S16384.Idx → BitVec 32) (k : ℕ) (l : S16.Idx) (j : S512.Idx) (hj : (j 0).val = 16 * k + (l 0).val) :
    (t ((oRowK L).view.emb j)).toNat = tgt L t k l := by
  unfold tgt
  refine congrArg BitVec.toNat (at1_of _ t _ _ fun a => ?_)
  rw [oRowK_emb, hj]; omega

theorem tgt_lt (t : S16384.Idx → BitVec 32) (ht : ∀ r, (t r).toNat < 1000) (k : ℕ) (l : S16.Idx) : tgt L t k l < 1000 := ht _

/-- The positions of the sixteen targets in the buffer holding their rows, as the trip computes them. -/
theorem target_pos (t : S16384.Idx → BitVec 32) (ht : ∀ r, (t r).toNat < 1000) (k : Fin k0_t1_loop.trips) (l : S16.Idx) :
    (addi k0_pay1 ((sT).view.readAt (Elt F) (Rect.unit (s := S512) (k0_off3 k) S16.size (k0_off3_inb k)).toLoadRect
      ((tRowK L).view.read (Elt F) t)) l).toNat = (l 0).val * 1000 + tgt L t k.val l := by
  have h16 : (l 0).val < 16 := (l 0).isLt
  set j := (Rect.unit (s := S512) (k0_off3 k) S16.size (k0_off3_inb k)).toLoadRect.idx l with hj
  have hjv : (j 0).val = 16 * k.val + (l 0).val := by
    rw [hj, LoadRect.idx_apply]
    show k0_off3 k 0 + 1 * (l 0).val = _
    rw [k0_off3_eq]; simp
  have hw : (sT).view.readAt (Elt F) (Rect.unit (s := S512) (k0_off3 k) S16.size (k0_off3_inb k)).toLoadRect ((tRowK L).view.read (Elt F) t) l
      = t ((oRowK L).view.emb j) := by
    rw [View.readAt_apply]
    exact (View.read_apply _ _).trans (cast_eq _ _)
  show (IntOp.addi (k0_pay1 l) _).toNat = _
  rw [hw, pay1_eq]
  have hlt := ht ((oRowK L).view.emb j)
  rw [← tgt_of L t k.val l j hjv]
  unfold IntOp.addi
  rw [BitVec.toNat_add, lanes_toNat 0 (by omega)]; omega

theorem chk2_of (t : S16384.Idx → BitVec 32) (ht : ∀ r, (t r).toNat < 1000) (k : Fin k0_t1_loop.trips) (p : IVec S16 32)
    (hp : ∀ l, (p l).toNat = (l 0).val * 1000 + tgt L t k.val l) : k0_chk2 p := by
  intro a l
  obtain rfl : a = 0 := Subsingleton.elim _ _
  show (p l).toNat < 16000
  have h16 : (l 0).val < 16 := (l 0).isLt
  have := tgt_lt L t ht k.val l
  rw [hp]; omega

/-- The rows' loop's invariant after `k` trips: the first `16 * k` results of the tile in its result scratch. -/
def tripInv (q : PosShare TreeShare) (y : S16384000.Idx → F .f32) (t : S16384.Idx → BitVec 32)
    (O : CellTallies nD τ sig (HIx 1)) (W : Waits sig (HIx 1)) (k : ℕ) (_ : Unit) : sProp 𝕄 :=
  iprop(Transfers.MayWaits (V d (cV L) (jV L)) (default : HIx 1) O
    ∗ ((yV).view.loc (V d (cV L) (jV L)) ↦{q} y)
    ∗ (∃ f, (sX).view.loc (V d (cV L) (jV L)) ↦{fullShare} f)
    ∗ ((sT).view.loc (V d (cV L) (jV L)) ↦{fullShare} ((tRowK L).view.read (Elt F) t : S512.Idx → BitVec 32))
    ∗ (∃ f : S512.Idx → F .f32, ⌜∀ j : S512.Idx, (j 0).val < 16 * k → f j = out y t ((oRowK L).view.emb j)⌝ ∗ (sO).view.loc (V d (cV L) (jV L)) ↦{fullShare} f)
    ∗ semVal (V d (cV L) (jV L), SemLoc.dma cc0_scoped1.sem) 0
    ∗ ∃ W', ⌜∀ p ∈ W', p ∈ W ∨ p.2 = none⌝ ∗ owes (V d (cV L) (jV L)) O W')

/-- Storing the sixteen results of trip `k` extends the results stored before it. -/
theorem stored (y : S16384000.Idx → F .f32) (t : S16384.Idx → BitVec 32) (k : Fin k0_t1_loop.trips) (fo : S512.Idx → F .f32)
    (hfo : ∀ j : S512.Idx, (j 0).val < 16 * k.val → fo j = out y t ((oRowK L).view.emb j)) (w : S16.Idx → F .f32)
    (hw : ∀ l, w l = rowOut (rows y L k.val l) (tgt L t k.val l)) (j : S512.Idx) (hj : (j 0).val < 16 * (k.val + 1)) :
    (sO).view.writes (Elt F) fo [⟨Rect.unit (k0_off4 k) S16.size (k0_off4_inb k), w⟩] j = out y t ((oRowK L).view.emb j) := by
  change (sO).view.read (Elt F) ((sO).view.writes (Elt F) fo [⟨Rect.unit (k0_off4 k) S16.size (k0_off4_inb k), w⟩]) j = _
  by_cases h : (j 0).val < 16 * k.val
  · refine (View.read_writes_cons_unit_of_not_mem (Val := Elt F) (sO).view fo (k0_off4_inb k) w [] j (k0_off4_eq k) 0 (Or.inl ?_)).trans (hfo j h)
    exact h
  · let l : S16.Idx := fun a => ⟨(j 0).val - 16 * k.val, by
      obtain rfl : a = 0 := Subsingleton.elim _ _
      show _ < 16; omega⟩
    have hl : (l 0).val = (j 0).val - 16 * k.val := rfl
    refine (View.read_writes_cons_unit_of_mem (Val := Elt F) (sO).view fo (k0_off4_inb k) w [] j l (k0_off4_eq k) fun a => ?_).trans ((hw l).trans ?_)
    · obtain rfl : a = (0 : Fin 1) := Subsingleton.elim (α := Fin 1) _ _
      show (j 0).val = 16 * k.val + (l 0).val
      rw [hl]; omega
    unfold out
    rw [tgt_of L t k.val l j (by rw [hl]; omega), oRowK_emb, rows, hl, show base L + 16 * k.val + ((j 0).val - 16 * k.val) = base L + (j 0).val by omega]

set_option maxHeartbeats 4000000 in
/-- One trip: sixteen rows fetched, their results stored. -/
theorem trip_step (q : PosShare TreeShare) (y : S16384000.Idx → F .f32) (t : S16384.Idx → BitVec 32) (ht : ∀ r, (t r).toNat < 1000)
    (O : CellTallies nD τ sig (HIx 1)) (W : Waits sig (HIx 1)) (k : Fin k0_t1_loop.trips) (acc : Unit) :
    tripInv d L q y t O W k.val acc
      ⊢ wp frame (wpE (defs₀ (F := F)) 𝒱₀ (V d (cV L) (jV L)) none) Set.univ
          (k0_t1_body L yV (Memref.isWhole_whole _) tV (Memref.isWhole_whole _) oV (Memref.isWhole_whole _)
            sX (Memref.isWhole_whole _) sT (Memref.isWhole_whole _) sO (Memref.isWhole_whole _) cc0_scoped0 cc0_scoped1 cc0_scoped2 k acc)
          fun acc' => tripInv d L q y t O W (k.val + 1) acc' := by
  unfold tripInv
  iintro ⟨Hmw, Hy, ⟨%fx, Hx⟩, Ht, ⟨%fo, %hfo, Ho⟩, Hsem, %W', %hW', HO⟩
  unfold k0_t1_body
  sl_exec (disch := exact View.amount_pos _ _ (show 0 < S16000.numel by decide))
  ihave Hx' := (Entails.of_eq (show ((sX).view.loc (V d (cV L) (jV L)) ↦{fullShare} (sX).view.write (Elt F) fx (trip_step.sl.dma0 L y k) Finset.univ : sProp 𝕄)
      = (sX).view.loc (V d (cV L) (jV L)) ↦{fullShare} ((yRowK L k).view.read (Elt F) y : S16000.Idx → F .f32) from
    congrArg (fun f => ((sX).view.loc (V d (cV L) (jV L)) ↦{fullShare} f : sProp 𝕄)) (View.write_whole_univ _ _ _))) $$ Hx
  sl_for (colInv d L y k) $$ [Hx']
  case region =>
    intro c acc
    exact col_step d L y k c acc
  · unfold colInv
    isplitr
    · ipureintro; exact state_zero _
    · iexact Hx'
  iintro %acc HI
  unfold colInv
  icases HI with ⟨%hacc, Hx⟩
  subst hacc
  sl_exec
  have hv : ∀ l, (trip_step.sl.v16 L t k l).toNat = (l 0).val * 1000 + tgt L t k.val l := target_pos (F := F) L t ht k
  rw [wp_assume_of _ _ _ _ (chk2_of L t ht k _ hv)]
  ihave Hx' := (Entails.of_eq (show ((sX).view.loc (V d (cV L) (jV L)) ↦{fullShare} ((yRowK L k).view.read (Elt F) y : S16000.Idx → F .f32) : sProp 𝕄)
      = ((sX).access (.whole S16000)).loc (V d (cV L) (jV L)) ↦{fullShare} ((yRowK L k).view.read (Elt F) y : S16000.Idx → F .f32) from rfl)) $$ Hx
  iapply (SparseCore.wp_vectorLoadIdx 𝒱₀ (V d (cV L) (jV L)) none Set.univ (base := sX) (S := Finset.univ) (q := fullShare) (Finset.subset_univ _)) $$ Hx'
  iintro Hx'
  sl_exec
  sl_step
  isplitl [Hmw]; · iexact Hmw
  isplitl [Hy]; · iexact Hy
  isplitl [Hx']; · iexists _; iexact Hx'
  isplitl [Ht]; · iexact Ht
  isplitl [Ho]
  · iexists _; isplitr
    swap; · iexact Ho
    ipureintro
    refine stored L y t k fo hfo _ fun l => ?_
    rw [pay8_eq]
    exact congrArg (quot _ _ _) (congrFun (gather_rows L y k _ _ hv _) l)
  isplitl [Hsem]; · iexact Hsem
  iexists (insert (SemLoc.dma cc0_scoped1.sem, (default : HIx 1)) W'); isplitr
  · ipureintro; intro p hp
    rcases Finset.mem_insert.mp hp with hp | hp
    · exact .inr (hp ▸ rfl)
    · exact hW' p hp
  · iexact HO

/-! ## The task -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

/-- The tile's own semaphores are its three transfers' and the rest. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped2.sem : SemLoc sig).isScoped .scVector = true; decide⟩⟩⟩)]

/-- The tile's own buffers are its three scratch buffers, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The elements of the result that the tile writes. -/
abbrev oSet (L : grid0.Coords) : Finset S16384.Idx := (oRowK L).view.set

omit [Named F] [FloatOps F] in
/-- What the write-out lands on the tile's elements of the result. -/
theorem landed (fo g : S16384.Idx → F .f32) (w : S512.Idx → F .f32) (hw : ∀ j, w j = g ((oRowK L).view.emb j)) (i : S16384.Idx) (hi : i ∈ oSet L) :
    (oRowK L).view.writes (Elt F) fo [⟨Rect.whole S512, w⟩] i = g i := by
  obtain ⟨j, -, rfl⟩ := Finset.mem_map.mp hi
  have h := View.read_writes_cons_emb (Val := Elt F) (oRowK L).view fo (Rect.whole S512) w [] j
  have hj : (Rect.whole S512).emb j = j := by
    funext a; apply Fin.ext
    show 0 + 1 * (j a).val = (j a).val
    omega
  rw [hj] at h
  rw [← hw j, ← h]
  exact ((View.read_apply _ _).trans (cast_eq _ _)).symm

set_option maxHeartbeats 4000000 in
/-- The task on vector subcore `(L 0, L 1)`: its targets fetched, its 32 trips, its 512 results written out. -/
theorem tile_body (hF : (K (F := F)).Facts) (qy qt : PosShare TreeShare) (y : Buf (Elt F) (yLoc d)) (t : Buf (Elt F) (tLoc d)) (fo : Buf (Elt F) (oLoc d))
    (ht : ∀ r : S16384.Idx, (t r : BitVec 32).toNat < 1000) (O : CellTallies nD τ sig (HIx 1)) (W : Waits sig (HIx 1)) (hO : ∀ g, O g none = 0) :
    (iprop(levAts (K (F := F)).L (K (F := F)).lev ∗ emp
        ∗ ((yLoc d ↦{qy} y) ∗ (tLoc d ↦{qt} t) ∗ oLoc d ↦[oSet L]{fullShare} fo)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__dlr_sc L yV (Memref.isWhole_whole _) tV (Memref.isWhole_whole _) oV (Memref.isWhole_whole _)
            sX (Memref.isWhole_whole _) sT (Memref.isWhole_whole _) sO (Memref.isWhole_whole _) cc0_scoped0 cc0_scoped1 cc0_scoped2)
          fun _ => iprop(((yLoc d ↦{qy} y) ∗ (tLoc d ↦{qt} t) ∗ oLoc d ↦[oSet L]{fullShare} (out y t : S16384.Idx → F .f32))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__dlr_sc_eq_skeleton]; unfold cc0__dlr_sc_skel
  rw [(K (F := F)).scopedBufs_V hF d (cV L) (jV L), SparseCore.Cfg.scopedSems0_V (Val := Elt F) d (cV L) (jV L), ownSems0_V, ownBufs_V]
  iintro ⟨#Hlv, -, ⟨Hy, Ht, Ho⟩, ⟨⟨%fx, Hx⟩, ⟨%ft, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hy' := (Entails.of_eq (show (yLoc d ↦{qy} y : sProp 𝕄) = (yV).view.loc (V d (cV L) (jV L)) ↦{qy} y from rfl)) $$ Hy
  ihave Ht' := (Entails.of_eq (show (tLoc d ↦{qt} t : sProp 𝕄) = (tV).view.loc (V d (cV L) (jV L)) ↦{qt} t from rfl)) $$ Ht
  ihave Ho' := (Entails.of_eq (show (oLoc d ↦[oSet L]{fullShare} fo : sProp 𝕄)
    = (oRowK L).view.loc (V d (cV L) (jV L)) ↦[(oRowK L).view.set]{fullShare} fo from rfl)) $$ Ho
  ihave Hx' := (Entails.of_eq (show ((V d (cV L) (jV L)).loc cc0_scratch0 ↦{fullShare} fx : sProp 𝕄) = (sX).view.loc (V d (cV L) (jV L)) ↦{fullShare} fx from rfl)) $$ Hx
  ihave Hs' := (Entails.of_eq (show ((V d (cV L) (jV L)).loc cc0_scratch1 ↦{fullShare} ft : sProp 𝕄) = (sT).view.loc (V d (cV L) (jV L)) ↦{fullShare} ft from rfl)) $$ Hs
  ihave Hr' := (Entails.of_eq (show ((V d (cV L) (jV L)).loc cc0_scratch2 ↦{fullShare} fr : sProp 𝕄) = (sO).view.loc (V d (cV L) (jV L)) ↦{fullShare} fr from rfl)) $$ Hr
  sl_exec
  ihave Hs2 := (Entails.of_eq (show ((sT).view.loc (V d (cV L) (jV L)) ↦{fullShare} (sT).view.write (Elt F) ft (tile_body.sl.dma0 d L t) Finset.univ : sProp 𝕄)
      = (sT).view.loc (V d (cV L) (jV L)) ↦{fullShare} ((tRowK L).view.read (Elt F) t : S512.Idx → BitVec 32) from
    congrArg (fun f => ((sT).view.loc (V d (cV L) (jV L)) ↦{fullShare} f : sProp 𝕄)) (View.write_whole_univ _ _ _))) $$ Hs'
  sl_for (tripInv d L qy y t O W) $$ [Hmw Hy' Hx' Hs2 Hr' HsemB HO]
  case region =>
    intro k acc
    exact trip_step d L qy y t ht O W k acc
  · unfold tripInv
    isplitl [Hmw]; · iexact Hmw
    isplitl [Hy']; · iexact Hy'
    isplitl [Hx']; · iexists _; iexact Hx'
    isplitl [Hs2]; · iexact Hs2
    isplitl [Hr']
    · iexists fr; isplitr
      · ipureintro; intro j hj; omega
      · iexact Hr'
    isplitl [HsemB]; · iexact HsemB
    iexists _; isplitr
    swap; · iexact HO
    ipureintro; intro p hp
    rcases Finset.mem_insert.mp hp with hp | hp
    · exact .inr (hp ▸ rfl)
    · exact .inl hp
  iintro %_ HI
  unfold tripInv
  icases HI with ⟨Hmw, Hy, ⟨%fx', Hx⟩, Hs, ⟨%fr', %hfr, Hr⟩, HsemB, %W', %hW', HO⟩
  sl_exec
  sl_step
  ihave Ho := (Entails.of_eq (show ((oRowK L).view.loc (V d (cV L) (jV L)) ↦[(oRowK L).view.set]{fullShare}
        (oRowK L).view.writes (Elt F) fo [⟨Rect.whole S512, tile_body.sl.dma0_1 fr'⟩] : sProp 𝕄)
      = oLoc d ↦[oSet L]{fullShare} (out y t : S16384.Idx → F .f32) from
    pointsTo_congr (landed L fo (out y t) (tile_body.sl.dma0_1 fr') fun j => hfr j (by
      have : (j 0).val < 512 := (j 0).isLt
      rw [show Scf.trips k0_t1_loop.lb k0_t1_loop.ub k0_t1_loop.st = 32 from trips1]; omega)))) $$ Ho'
  isplitl [Hy Ht' Ho]
  · isplitl [Hy]; · iexact Hy
    isplitl [Ht']; · iexact Ht'
    iexact Ho
  isplitl [Hx Hs Hr Hbufs]
  · isplitl [Hx]; · iexists _; iexact Hx
    isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp
  · exact .inr (hp ▸ rfl)
  · exact hW' p hp

end Cert.Proof.Margin

end
-- ==== Proof.Launch.lean ====
/-
  The whole run, over any float values: what the launch hands the thirty-two tiles (a share of the flat array and of the
  targets each, and its block of the result), @main on the TensorCore (the flattening, then the launch), and the run's
  theorem: the arguments unchanged, the result every row's (`out`), every counter back at zero.
-/
module

public import proofs.«01_k».proof.Proof.Tile

@[expose] public section

noncomputable section

namespace Cert.Proof.Margin

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "yV" => (Memref.whole Cert.KernelIdeal.main_v0_scv : Memref Cert.KernelIdeal.sig Kind.scVector Space.hbm Cert.KernelIdeal.S16384000 EltTy.f32)
local notation "tV" => (Memref.whole Cert.KernelIdeal.main_arg1_scv : Memref Cert.KernelIdeal.sig Kind.scVector Space.hbm Cert.KernelIdeal.S16384 EltTy.i32)
local notation "oV" => (Memref.whole Cert.KernelIdeal.main_v1_scv : Memref Cert.KernelIdeal.sig Kind.scVector Space.hbm Cert.KernelIdeal.S16384 EltTy.f32)
local notation "sX" => (Memref.whole Cert.KernelIdeal.cc0_scratch0 : Memref Cert.KernelIdeal.sig Kind.scVector Space.vmem Cert.KernelIdeal.S16000 EltTy.f32)
local notation "sT" => (Memref.whole Cert.KernelIdeal.cc0_scratch1 : Memref Cert.KernelIdeal.sig Kind.scVector Space.vmem Cert.KernelIdeal.S512 EltTy.i32)
local notation "sO" => (Memref.whole Cert.KernelIdeal.cc0_scratch2 : Memref Cert.KernelIdeal.sig Kind.scVector Space.vmem Cert.KernelIdeal.S512 EltTy.f32)

variable (m : (ℓ : Loc nD τ sig) → Buf (Elt F) ℓ) (ρ : Dev nD → PrngReg)

/-! ## The tiles' shares and blocks -/

/-- SparseCore `c`'s share of an array every tile reads, and tile `i`'s of it. -/
def qC (c : Fin 2) : PosShare TreeShare := Transfers.dealOf fullShare Finset.univ c
def qT (c : Fin 2) (i : Fin 16) : PosShare TreeShare := Transfers.dealOf (qC c) Finset.univ i

/-- The tile's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- Tile `(c, i)`'s block of the result. -/
abbrev blk (c : Fin 2) (i : Fin 16) : Finset S16384.Idx := oSet (coordsV c i)

theorem mem_blk (c : Fin 2) (i : Fin 16) (r : S16384.Idx) :
    r ∈ blk c i ↔ 8192 * c.val + 512 * i.val ≤ (r 0).val ∧ (r 0).val < 8192 * c.val + 512 * i.val + 512 := by
  constructor
  · intro h
    obtain ⟨j, -, rfl⟩ := Finset.mem_map.mp h
    have hj : (j 0).val < 512 := (j 0).isLt
    rw [oRowK_emb]
    show 8192 * c.val + 512 * i.val ≤ 8192 * c.val + 512 * i.val + (j 0).val ∧ 8192 * c.val + 512 * i.val + (j 0).val < _
    omega
  · intro h
    refine Finset.mem_map.mpr ⟨fun a => ⟨(r 0).val - (8192 * c.val + 512 * i.val), ?_⟩, Finset.mem_univ _, ?_⟩
    · obtain rfl : a = (0 : Fin 1) := Subsingleton.elim (α := Fin 1) _ _
      show _ < 512; omega
    · funext a; apply Fin.ext
      rw [oRowK_emb]
      obtain rfl : a = (0 : Fin 1) := Subsingleton.elim (α := Fin 1) _ _
      show 8192 * c.val + 512 * i.val + ((r 0).val - (8192 * c.val + 512 * i.val)) = (r 0).val
      omega

theorem blk_disjoint : ∀ p ∈ (Finset.univ : Finset (Fin 2 × Fin 16)), ∀ p' ∈ (Finset.univ : Finset (Fin 2 × Fin 16)), p ≠ p' →
    Disjoint (blk p.1 p.2) (blk p'.1 p'.2) := by
  intro p _ p' _ hne
  refine Finset.disjoint_left.mpr fun r h h' => hne ?_
  have h1 := (mem_blk p.1 p.2 r).mp h
  have h2 := (mem_blk p'.1 p'.2 r).mp h'
  refine Prod.ext (Fin.ext ?_) (Fin.ext ?_) <;> omega

theorem blk_cover : (Finset.univ : Finset (Fin 2 × Fin 16)).biUnion (fun p => blk p.1 p.2) = Finset.univ := by
  refine Finset.eq_univ_iff_forall.mpr fun r => Finset.mem_biUnion.mpr ?_
  have hr : (r 0).val < 16384 := (r 0).isLt
  refine ⟨(⟨(r 0).val / 8192, by omega⟩, ⟨(r 0).val % 8192 / 512, by omega⟩), Finset.mem_univ _, (mem_blk _ _ _).mpr ?_⟩
  show 8192 * ((r 0).val / 8192) + 512 * ((r 0).val % 8192 / 512) ≤ _ ∧ _
  dsimp only
  omega

theorem oPts_blks (d : Dev nD) (f : Buf (Elt F) (oLoc d)) :
    (oLoc d ↦{fullShare} f : sProp 𝕄) = bigSep Finset.univ fun c : Fin 2 => bigSep Finset.univ fun i : Fin 16 => oLoc d ↦[blk c i]{fullShare} f := by
  rw [← bigSep_univ_prod (fun p : Fin 2 × Fin 16 => (oLoc d ↦[blk p.1 p.2]{fullShare} f : sProp 𝕄)),
    ← pointsTo_biUnion Finset.univ (ℓ := oLoc d) (fun p : Fin 2 × Fin 16 => blk p.1 p.2) blk_disjoint, blk_cover]

theorem pts_cores {ℓ : Loc nD τ sig} (f : Buf (Elt F) ℓ) :
    (ℓ ↦{fullShare} f : sProp 𝕄) = bigSep Finset.univ fun c : Fin 2 => ℓ ↦{qC c} f :=
  Transfers.pointsTo_deal Finset.univ Finset.univ_nonempty fullShare

theorem pts_tiles {ℓ : Loc nD τ sig} (c : Fin 2) (f : Buf (Elt F) ℓ) :
    (ℓ ↦{qC c} f : sProp 𝕄) = bigSep Finset.univ fun i : Fin 16 => ℓ ↦{qT c i} f :=
  Transfers.pointsTo_deal Finset.univ Finset.univ_nonempty (qC c)

/-! ## What the handshakes carry -/

/-- The flat array @main makes of its first argument. -/
def flat (d : Dev nD) : Buf (Elt F) (yLoc d) :=
  (shapeCast S16384000 (m (aLoc d) : S16384x1000.Idx → F .f32) shapeCasts_S16384x1000_S16384000 : S16384000.Idx → F .f32)

/-- The result. -/
def res (d : Dev nD) : Buf (Elt F) (oLoc d) := (out (flat m d) (m (tLoc d)) : S16384.Idx → F .f32)

/-- What a SparseCore takes, and what it hands back; what a tile does. -/
abbrev corePts (d : Dev nD) (c : Fin 2) (f : Buf (Elt F) (oLoc d)) : sProp 𝕄 :=
  iprop((yLoc d ↦{qC c} flat m d) ∗ (tLoc d ↦{qC c} m (tLoc d)) ∗ bigSep Finset.univ fun i : Fin 16 => oLoc d ↦[blk c i]{fullShare} f)
abbrev tilePts (d : Dev nD) (c : Fin 2) (i : Fin 16) (f : Buf (Elt F) (oLoc d)) : sProp 𝕄 :=
  iprop((yLoc d ↦{qT c i} flat m d) ∗ (tLoc d ↦{qT c i} m (tLoc d)) ∗ oLoc d ↦[blk c i]{fullShare} f)

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (res m d)
  go := fun q d c i => match q with | 0 => tilePts m d (Fin.cast nCore_zero c) (Fin.cast nSub_zero i) (m (oLoc d))
  td := fun q d c i => match q with | 0 => tilePts m d (Fin.cast nCore_zero c) (Fin.cast nSub_zero i) (res m d)
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (res m d)))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (res m d)))

/-- What the proof asks of the launch memory: every target is a column. -/
def PreOK : Prop := ∀ (d : Dev nD) (r : S16384.Idx), (m (tLoc d) r : BitVec 32).toNat < 1000

/-! ## The obligations -/

theorem defs₀_vector (c : Fin τ.nSC) (s : Fin τ.nSub) :
    defs₀ (F := F) (.scVector c s) 0 ()
      = SparseCore.onTile hcore0 hsub0 (fun c s => cc0__dlr_sc (coordsV c s)
          yV (Memref.isWhole_whole _) tV (Memref.isWhole_whole _) oV (Memref.isWhole_whole _)
          sX (Memref.isWhole_whole _) sT (Memref.isWhole_whole _) sO (Memref.isWhole_whole _) cc0_scoped0 cc0_scoped1 cc0_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF _ _ (flat m d) (m (tLoc d)) (m (oLoc d)) (hpre d) O W hO).trans
    (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem core_tiles (d : Dev nD) (c : Fin 2) (f : Buf (Elt F) (oLoc d)) :
    corePts m d c f = bigSep Finset.univ fun i : Fin 16 => tilePts m d c i f := by
  unfold corePts tilePts
  rw [bigSep_sep', bigSep_sep', pts_tiles, pts_tiles]

theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (res m d))
          -∗ corePts m d (Fin.cast nCore_zero c) (res m d)))
  rw [bigSep_tasks (F := F) (fun i => tilePts m d (Fin.cast nCore_zero c) i (m (oLoc d))),
    bigSep_tasks (F := F) (fun i => tilePts m d (Fin.cast nCore_zero c) i (res m d)), core_tiles, core_tiles]
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev t' : DevRef τ sig := Proc.devRef .tc (main_arg1 : Ref sig .tc)
abbrev y' : DevRef τ sig := Proc.devRef .tc (main_v0 : Ref sig .tc)
abbrev o' : DevRef τ sig := Proc.devRef .tc (main_v1 : Ref sig .tc)
abbrev opFlat : HloOp τ sig (Elt F) := StableHlo.reshape main_arg0 main_v0 (rfl : (.f32 : EltTy) = .f32) shapeCasts_S16384x1000_S16384000

/-- The TensorCore's arrays: the arguments, the flat array, the result. -/
abbrev S4 : Finset (DevRef τ sig) := {a', t', y', o'}

theorem held_S4 (d : Dev nD) (W : Valuation τ sig (Elt F)) :
    (held (T d) S4 W : sProp 𝕄) = iprop((aLoc d ↦{fullShare} W a') ∗ (tLoc d ↦{fullShare} W t') ∗ (yLoc d ↦{fullShare} W y') ∗ oLoc d ↦{fullShare} W o') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (tLoc d ↦{fullShare} W main_arg1) ∗ (yLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch contents of the TensorCore's arrays. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hFlat : (opFlat (F := F)).bufs ⊆ S4 := show ({a', y'} : Finset (DevRef τ sig)) ⊆ S4 by decide

/-- After the flattening: the arguments and the result as launched, the flat array the first argument's elements. -/
theorem held_flat (d : Dev nD) :
    (held (T d) S4 ((opFlat (F := F)).result (V0 m d)) : sProp 𝕄)
      = iprop((aLoc d ↦{fullShare} m (aLoc d)) ∗ (tLoc d ↦{fullShare} m (tLoc d)) ∗ (yLoc d ↦{fullShare} flat m d) ∗ oLoc d ↦{fullShare} m (oLoc d)) := by
  rw [held_S4,
    (opFlat (F := F)).result_of_not_mem (V0 m d) (b := a') (show a' ∉ ({y'} : Finset (DevRef τ sig)) by decide),
    (opFlat (F := F)).result_of_not_mem (V0 m d) (b := t') (show t' ∉ ({y'} : Finset (DevRef τ sig)) by decide),
    (opFlat (F := F)).result_of_not_mem (V0 m d) (b := o') (show o' ∉ ({y'} : Finset (DevRef τ sig)) by decide),
    show (opFlat (F := F)).result (V0 m d) y' = flat m d from StableHlo.reshape_result main_arg0 main_v0 _ _ _ _ _]
  rfl

/-- What the launch takes for the two SparseCores, and what it hands back. -/
theorem cores_eq (d : Dev nD) (f : Buf (Elt F) (oLoc d)) :
    (bigSep Finset.univ fun c : Fin ((K (F := F)).nCore 0) => corePts m d (Fin.cast nCore_zero c) f)
      = iprop((yLoc d ↦{fullShare} flat m d) ∗ (tLoc d ↦{fullShare} m (tLoc d)) ∗ oLoc d ↦{fullShare} f) := by
  rw [oPts_blks, pts_cores (F := F) (flat m d), pts_cores (F := F) (m (tLoc d)), ← bigSep_sep', ← bigSep_sep']
  exact bigSep_congr fun _ _ => rfl

theorem st0_eq (d : Dev nD) : (bigSep Finset.univ fun c : Fin ((K (F := F)).nCore 0) => (P m).st 0 d c)
    = iprop((yLoc d ↦{fullShare} flat m d) ∗ (tLoc d ↦{fullShare} m (tLoc d)) ∗ oLoc d ↦{fullShare} m (oLoc d)) := cores_eq m d (m (oLoc d))
theorem dn0_eq (d : Dev nD) : (bigSep Finset.univ fun c : Fin ((K (F := F)).nCore 0) => (P m).dn 0 d c)
    = iprop((yLoc d ↦{fullShare} flat m d) ∗ (tLoc d ↦{fullShare} m (tLoc d)) ∗ oLoc d ↦{fullShare} res m d) := cores_eq m d (res m d)

abbrev FIN (d : Dev nD) : sProp 𝕄 := iprop((aLoc d ↦{fullShare} m (aLoc d)) ∗ (tLoc d ↦{fullShare} m (tLoc d)) ∗ oLoc d ↦{fullShare} res m d)

/-- @main on device `d`'s TensorCore: the flattening, the launch; the arguments kept, the result every row's. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := S4) hFlat (V := V0 m d)) $$ [Hb Hheld]
  · isplitl [Hb]; · iexact Hb
    iexact Hheld
  iintro ⟨Hb, Hheld⟩
  ihave Hh := (Entails.of_eq (held_flat (F := F) m d)) $$ Hheld
  icases Hh with ⟨Ha, Ht, Hy, Ho⟩
  rw [wp_ret]; imodintro
  iapply ((K (F := F)).wp_run (D (F := F)) 𝒱 (EH := EH) (P := P m) κ d 0) $$ [Hst Ha Ht Hy Ho Hb Hts]
  isplitr; · iexact Hctx
  isplitl [Hst]; · iexact Hst
  isplitl [Ht Hy Ho]
  · iapply (Entails.of_eq (st0_eq m d).symm)
    isplitl [Hy]; · iexact Hy
    isplitl [Ht]; · iexact Ht
    iexact Ho
  iintro ⟨Hst, Hdn⟩
  ihave Hdn' := (Entails.of_eq (dn0_eq m d)) $$ Hdn
  icases Hdn' with ⟨-, Ht, Ho⟩
  imodintro
  isplitl [Hst]; · iexact Hst
  isplitr [Hb Hts]
  · isplitl [Ha]; · iexact Ha
    isplitl [Ht]; · iexact Ht
    iexact Ho
  isplitl [Hb] <;> iassumption

def fq (d : Dev nD) (s' : Phys nD τ sig (Elt F)) : Prop :=
  s'.mem.mem (oLoc d) = res m d ∧ s'.mem.mem (aLoc d) = m (aLoc d) ∧ s'.mem.mem (tLoc d) = m (tLoc d)

set_option maxRecDepth 16384 in
theorem hfin (d : Dev nD) (s' : Phys nD τ sig (Elt F)) : iprop(FIN m d ∗ SI s') ⊢ (⌜fq m d s'⌝ : sProp 𝕄) := by
  iintro ⟨⟨Ha, Ht, Ho⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := oLoc d) (I := Finset.univ) (q := fullShare) (f := res m d)) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem (oLoc c) = res m c ∧ r.2.mem (aLoc c) = m (aLoc c) ∧ r.2.mem (tLoc c) = m (tLoc c)) ∧ r.2.sem = fun _ => 0

/-- The run: from targets that are columns, every weakly fair execution terminates with the result every row's, the
    arguments unchanged and every counter at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m scFacts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Margin

end
-- ==== Proof.Pre.lean ====
/-
  The precondition read back: `0 ≤ targets < 1000` everywhere, as the program computes it, says that every target's word is the
  number of a column.
-/
module

public import proofs.«01_k».proof.Pre_in_range
public import proofs.«01_k».proof.Proof.Gen.Pre_in_range
public import Idealize.ShloMosaic.Lib.ReduceAll

@[expose] public section

noncomputable section

namespace Cert.Proof.Margin

open Idealize.ShloMosaic Cert.Pre_in_range Cert.Pre_in_range.Gen

/-- A signed word at least 0 and below 1000 is a number below 1000. -/
theorem word_in_range (v : BitVec 32) (h0 : IntOp.cmpi .sge v 0#32 = 1#1) (h1 : IntOp.cmpi .slt v 1000#32 = 1#1) : v.toNat < 1000 := by
  have e0 := IntOp.cmpi_sge.1 h0
  have e1 := IntOp.cmpi_slt.1 h1
  simp only [BitVec.toInt_eq_toNat_cond, BitVec.toNat_ofNat] at e0 e1
  omega

/-- The precondition all ones: every target is the number of a column. -/
theorem targets_in_range {F : FTy → Type} [FloatOps F] (x : FVec F S16384x1000 .f32) (t : IVec S16384 32)
    (h : fn (F := F) x t = fun _ => 1#1) (r : S16384.Idx) : (t r).toNat < 1000 := by
  have e : Host.reduce IntOp.andi _ _ _ _ _ = 1#1 := congrFun h (fun a => a.elim0)
  haveI : Subsingleton S_.Idx := ⟨fun a b => funext fun i => i.elim0⟩
  obtain ⟨h0, h1⟩ := IntOp.andi_eq_one.1 (Host.reduce_andi_all _ _ _ _ _ e r)
  exact word_in_range _ h0 h1

end Cert.Proof.Margin

end
-- ==== Proof.Math.lean ====
/-
  The mathematics of one row, over the extended reals. The kernel keeps the three largest elements of the row by running
  maxima and minima from −∞; the reference sorts the row and reads the last three places. Both are determined by how many
  elements of the row reach each level `v`, so they agree, ties and infinities included. Then the two quotients agree: where
  the largest element is +∞ or the third largest −∞ the denominator is infinite and both quotients are 0; elsewhere the three
  largest elements are real numbers and the numerators are one.
-/
module

public import proofs.«01_k».proof.Proof.Spec
public import Idealize.ShloMosaic.Lib.IdealHost
public import Mathlib.Order.Fin.Basic
public import Mathlib.Order.Interval.Finset.Fin

@[expose] public section

noncomputable section

namespace Cert.Proof.Margin

open Cert.KernelIdeal Cert.KernelIdeal.Gen
open Idealize.ShloMosaic

/-- How many of the first `n` elements of `g` are at least `v`. -/
def reach (v : EReal) (g : ℕ → EReal) (n : ℕ) : ℕ := ((Finset.range n).filter fun i => v ≤ g i).card

theorem reach_succ (v : EReal) (g : ℕ → EReal) (n : ℕ) : reach v g (n + 1) = reach v g n + if v ≤ g n then 1 else 0 := by
  unfold reach
  rw [Finset.range_add_one, Finset.filter_insert]
  split
  · rw [Finset.card_insert_of_notMem (by simp)]
  · rfl

/-- The stand-in for −∞ is −∞. -/
theorem neg_bot : (neg : Ideal .f32) = (⊥ : EReal) := rfl

/-- A level above −∞ is reached by the k-th largest kept element exactly when at least k elements reach it. -/
theorem le_top3 (v : EReal) (hv : ⊥ < v) (g : ℕ → EReal) (n : ℕ) :
    (v ≤ (top3 (F := Ideal) g n).1 ↔ 1 ≤ reach v g n) ∧ (v ≤ (top3 (F := Ideal) g n).2.1 ↔ 2 ≤ reach v g n)
      ∧ (v ≤ (top3 (F := Ideal) g n).2.2 ↔ 3 ≤ reach v g n) := by
  induction n with
  | zero =>
    have h : ¬ v ≤ (neg : Ideal .f32) := by rw [neg_bot]; exact not_le.mpr hv
    refine ⟨?_, ?_, ?_⟩ <;> exact iff_of_false h (by simp [reach])
  | succ n ih =>
    obtain ⟨h1, h2, h3⟩ := ih
    rw [reach_succ]
    have e : top3 (F := Ideal) g (n + 1)
        = (max (top3 (F := Ideal) g n).1 (g n), max (top3 (F := Ideal) g n).2.1 (min (top3 (F := Ideal) g n).1 (g n)),
            max (top3 (F := Ideal) g n).2.2 (min (top3 (F := Ideal) g n).2.1 (min (top3 (F := Ideal) g n).1 (g n)))) := rfl
    rw [e]
    simp only [le_max_iff, le_min_iff, h1, h2, h3]
    by_cases hg : v ≤ g n <;> simp only [hg, if_true, if_false, and_true, and_false, or_true, or_false, true_iff] <;> refine ⟨?_, ?_, ?_⟩ <;> omega

/-- In a rising sequence of `n` elements, place `k` reaches a level exactly when at least `n − k` elements do. -/
theorem le_rising {n : ℕ} (y : Fin n → EReal) (hy : Monotone y) (v : EReal) (k : Fin n) :
    v ≤ y k ↔ n - k.val ≤ (Finset.univ.filter fun i => v ≤ y i).card := by
  constructor
  · intro h
    rw [← Fin.card_Ici]
    refine Finset.card_le_card fun i hi => ?_
    rw [Finset.mem_Ici] at hi
    exact Finset.mem_filter.mpr ⟨Finset.mem_univ _, h.trans (hy hi)⟩
  · intro h
    by_contra hv
    have h2 : (Finset.univ.filter fun i => v ≤ y i).card ≤ (Finset.Ioi k).card := by
      refine Finset.card_le_card fun i hi => ?_
      rw [Finset.mem_Ioi]
      by_contra hik
      exact hv ((Finset.mem_filter.mp hi).2.trans (hy (not_lt.mp hik)))
    rw [Fin.card_Ioi] at h2
    have := k.isLt
    omega

/-- Elements of a finite sequence that reach a level, counted in the order of a rearrangement or along the naturals. -/
theorem reach_perm {n : ℕ} (x : Fin n → EReal) (σ : Fin n → Fin n) (hσ : Function.Bijective σ) (g : ℕ → EReal)
    (hg : ∀ i : Fin n, g i.val = x i) (v : EReal) : (Finset.univ.filter fun i => v ≤ x (σ i)).card = reach v g n := by
  unfold reach
  rw [Finset.card_filter, Finset.card_filter, Finset.sum_range]
  refine (Equiv.sum_comp (Equiv.ofBijective σ hσ) fun i => if v ≤ x i then 1 else 0).trans (Finset.sum_congr rfl fun i _ => ?_)
  rw [hg]

/-- Two elements reached by the same levels above −∞ are equal. -/
theorem eq_of_levels {a b : EReal} (h : ∀ v, ⊥ < v → (v ≤ a ↔ v ≤ b)) : a = b := by
  refine le_antisymm ?_ ?_
  · rcases eq_or_lt_of_le (bot_le (a := a)) with e | e
    · rw [← e]; exact bot_le
    · exact (h a e).mp le_rfl
  · rcases eq_or_lt_of_le (bot_le (a := b)) with e | e
    · rw [← e]; exact bot_le
    · exact (h b e).mpr le_rfl

/-- The three kept elements are the last three places of the sorted row. -/
theorem top3_sorted (x : Fin 1000 → EReal) (σ : Fin 1000 → Fin 1000) (hσ : Function.Bijective σ)
    (hm : Monotone fun i => x (σ i)) (g : ℕ → EReal) (hg : ∀ i : Fin 1000, g i.val = x i) :
    top3 (F := Ideal) g 1000 = (x (σ 999), x (σ 998), x (σ 997)) := by
  have key : ∀ v, ∀ k : Fin 1000, v ≤ x (σ k) ↔ 1000 - k.val ≤ reach v g 1000 := fun v k => by
    rw [← reach_perm x σ hσ g hg v]; exact le_rising (fun i => x (σ i)) hm v k
  refine Prod.ext ?_ (Prod.ext ?_ ?_)
  · exact eq_of_levels fun v hv => (le_top3 v hv g 1000).1.trans (key v 999).symm
  · exact eq_of_levels fun v hv => (le_top3 v hv g 1000).2.1.trans (key v 998).symm
  · exact eq_of_levels fun v hv => (le_top3 v hv g 1000).2.2.trans (key v 997).symm

/-- The small constant of the denominator is a positive real number. -/
theorem eps_pos : ∃ e : ℝ, 0 < e ∧ Ideal.ofBits .f32 0x2B8CBCCC#32 = (e : EReal) := by
  refine ⟨_, ?_, by simp only [Ideal.ofBits, Ideal.ieee]; simp; rfl⟩
  positivity

/-- The two quotients: of `a2 − tl` or `a1 − tl` as the kernel chooses by comparing, and of the reference's sum weighted by the
    indicator, over the same denominator. -/
theorem quot_eq (a1 a2 a3 tl ind ε : EReal) (e : ℝ) (he : 0 < e) (hε : ε = (e : EReal)) (h21 : a2 ≤ a1) (h32 : a3 ≤ a2) (htl : tl ≤ a1)
    (hind : ind = 1 ∧ tl = a1 ∨ ind = 0 ∧ (tl = a1 → a2 = a1)) :
    Ideal.div ((if tl = a1 then a2 else a1) - tl) ((a1 - a3) + ε)
      = Ideal.div (-((tl - a2 * ind) - a1 * (1 - ind))) ((a1 - a3) + ε) := by
  subst hε
  have flat : ∀ n d : EReal, d = ⊤ ∨ d = ⊥ → Ideal.div n d = 0 := by
    rintro n d (rfl | rfl) <;> simp [Ideal.div]
  by_cases h1 : a1 = ⊤
  · have hd : (a1 - a3) + (e : EReal) = ⊤ ∨ (a1 - a3) + (e : EReal) = ⊥ := by
      subst h1
      by_cases h3 : a3 = ⊤
      · subst h3; right; rfl
      · left
        rw [EReal.top_sub h3]; rfl
    rw [flat _ _ hd, flat _ _ hd]
  by_cases h3 : a3 = ⊥
  · have hd : (a1 - a3) + (e : EReal) = ⊤ ∨ (a1 - a3) + (e : EReal) = ⊥ := by
      subst h3
      by_cases h1' : a1 = ⊥
      · subst h1'; right; rfl
      · left
        rw [EReal.sub_bot h1']; rfl
    rw [flat _ _ hd, flat _ _ hd]
  have h2t : a2 ≠ ⊤ := ne_top_of_le_ne_top h1 h21
  have h2b : a2 ≠ ⊥ := ne_bot_of_le_ne_bot h3 h32
  have h1b : a1 ≠ ⊥ := ne_bot_of_le_ne_bot h2b h21
  have htt : tl ≠ ⊤ := ne_top_of_le_ne_top h1 htl
  have h11 : (1 : EReal) - 1 = 0 := by
    rw [show (1 : EReal) = ((1 : ℝ) : EReal) from rfl, ← EReal.coe_sub, sub_self]; rfl
  have h10 : (1 : EReal) - 0 = 1 := sub_zero 1
  congr 1
  lift a1 to ℝ using ⟨h1, h1b⟩
  lift a2 to ℝ using ⟨h2t, h2b⟩
  rcases hind with ⟨rfl, rfl⟩ | ⟨rfl, hc⟩
  · rw [if_pos rfl, h11, mul_one, mul_zero, sub_zero]
    norm_cast
    ring_nf
  · by_cases ht : tl = a1
    · rw [if_pos ht, hc ht, ht, h10, mul_one, mul_zero, sub_zero]
      norm_cast
      ring_nf
    · rw [if_neg ht, h10, mul_one, mul_zero, sub_zero]
      by_cases htb : tl = ⊥
      · subst htb
        simp
      · lift tl to ℝ using ⟨htt, htb⟩
        norm_cast
        ring_nf

/-- One row: the kernel's result, of the row `g` and the target column `t`, is the reference's quotient of the sorted row's last
    three places, the indicator being whether the column that sorts last is `t`. -/
theorem rowOut_sorted (x : Fin 1000 → EReal) (σ : Fin 1000 → Fin 1000) (hσ : Function.Bijective σ)
    (hm : Monotone fun i => x (σ i)) (g : ℕ → EReal) (hg : ∀ i : Fin 1000, g i.val = x i) (t : Fin 1000) (ind : EReal)
    (hind : ind = if σ 999 = t then 1 else 0) :
    rowOut (F := Ideal) g t.val
      = Ideal.div (-((x t - x (σ 998) * ind) - x (σ 999) * (1 - ind))) ((x (σ 999) - x (σ 997)) + Ideal.ofBits .f32 0x2B8CBCCC#32) := by
  obtain ⟨e, he, hε⟩ := eps_pos
  have hx : x t ≤ x (σ 999) := by
    obtain ⟨k, rfl⟩ := hσ.2 t
    exact hm (show k ≤ 999 from Fin.le_last k)
  have hsel : ∀ p q a b : EReal, Scalar.select (FloatOps.cmpf (F := Ideal) (φ := .f32) .oeq p q) a b = if p = q then a else b := by
    intro p q a b
    show Scalar.select (BitVec.ofBool (decide (p = q))) a b = _
    by_cases h : p = q
    · rw [decide_eq_true h, if_pos h]; rfl
    · rw [decide_eq_false h, if_neg h]; rfl
  unfold rowOut quot
  rw [top3_sorted x σ hσ hm g hg, hg]
  dsimp only
  rw [hsel]
  refine quot_eq (x (σ 999)) (x (σ 998)) (x (σ 997)) (x t) ind _ e he hε (hm (by decide)) (hm (by decide)) hx ?_
  by_cases h : σ 999 = t
  · left; rw [hind, if_pos h, h]; exact ⟨rfl, rfl⟩
  · right; rw [hind, if_neg h]; refine ⟨rfl, fun hxt => le_antisymm (hm (by decide)) ?_⟩
    rw [← hxt]
    obtain ⟨k, rfl⟩ := hσ.2 t
    have hk : k ≠ 999 := fun hk => h (by rw [hk])
    refine hm (show k ≤ 998 from ?_)
    have h1 : k.val ≠ 999 := fun hv => hk (Fin.ext hv)
    have := k.isLt
    exact Fin.le_def.mpr (show k.val ≤ 998 by omega)

end Cert.Proof.Margin

end
-- ==== Proof.Ref.lean ====
/-
  The reference, row by row: what its sort, its argsort, its columns and its gather read at a row, and so its result: the
  quotient of the row's last three sorted places, which is the kernel's (`rowOut`).
-/
module

public import proofs.«01_k».proof.Proof.Math
public import proofs.«01_k».proof.Proof.Gen.ReferenceIdeal.Run
public import Idealize.ShloMosaic.Lib.SortFacts
public import Idealize.ShloMosaic.Lib.ValueLayout
public import Idealize.ShloMosaic.Lib.Pipeline.Value

@[expose] public section

noncomputable section

namespace Cert.Proof.Margin.Ref

open Cert.ReferenceIdeal Cert.ReferenceIdeal.Gen
open Idealize.ShloMosaic Idealize.ShloMosaic.ValueIdx Idealize.SL.Sem

/-! ## The sort -/

/-- The reference's comparator first makes one zero and one not-a-number of each; on the extended reals that changes nothing. -/
theorem canon (l c c' : EReal) :
    Scalar.select (FloatOps.cmpf (F := Ideal) (φ := .f32) .une l l) c' (Scalar.select (FloatOps.cmpf (F := Ideal) (φ := .f32) .oeq l c) c l) = l := by
  show Scalar.select (BitVec.ofBool (decide (l ≠ l))) c' (Scalar.select (BitVec.ofBool (decide (l = c))) c l) = l
  rw [decide_eq_false (fun h => h rfl)]
  show Scalar.select (BitVec.ofBool (decide (l = c))) c l = l
  by_cases h : l = c
  · rw [decide_eq_true h]; exact h.symm
  · rw [decide_eq_false h]; rfl

theorem comparator_lt (l r : EReal) : (comparator_f32_d1 (F := Ideal) l r == 1#1) = decide (l < r) := by
  unfold comparator_f32_d1
  dsimp only
  rw [canon, canon]
  show (BitVec.ofBool (decide (l < r)) == 1#1) = _
  cases decide (l < r) <;> rfl

theorem comparator2_lt (l r : EReal × BitVec 32) : (comparator_f32_i32_d1 (F := Ideal) l r == 1#1) = decide (l.1 < r.1) := by
  unfold comparator_f32_i32_d1
  dsimp only
  rw [canon, canon]
  show (BitVec.ofBool (decide (l.1 < r.1)) == 1#1) = _
  cases decide (l.1 < r.1) <;> rfl

variable (x : S16384x1000.Idx → EReal)

/-- The column that sorts to place `k` of row `r`. -/
def ord (r : Fin 16384) : Fin 1000 → Fin 1000 := sortedFrom fun k k' => decide (x (ix2 r k) < x (ix2 r k'))

theorem ord_bijective (r : Fin 16384) : Function.Bijective (ord x r) := ⟨sortedFrom_injective _, sortedFrom_surjective _⟩

theorem ord_monotone (r : Fin 16384) : Monotone fun k => x (ix2 r (ord x r k)) := by
  refine monotone_iff_forall_lt.mpr fun i j hij => ?_
  have h := sortedFrom_noInversion (fun k k' => decide (x (ix2 r k) < x (ix2 r k'))) (fun k k' => decide (x (ix2 r k) < x (ix2 r k')))
    (fun a b h => by simp only [decide_eq_true_eq, decide_eq_false_iff_not] at h ⊢; exact h.le.not_gt) (fun _ _ h => h)
    (fun a b c h h' => by simp only [decide_eq_false_iff_not, not_lt] at h h' ⊢; exact h'.trans h) i j hij
  exact not_lt.mp (decide_eq_false_iff_not.mp h)

theorem along_row (r : Fin 16384) (c : Fin 1000) (hd : 1 < S16384x1000.rank) (k : Fin 1000) :
    Shape.Idx.along (s := S16384x1000) (ix2 r c) ⟨1, hd⟩ k = ix2 r k := by
  funext a
  match a with
  | ⟨0, _⟩ => rfl
  | ⟨1, _⟩ => rfl

/-- The sorted array. -/
theorem sort_apply (r : Fin 16384) (c : Fin 1000) :
    Host.sort S16384x1000 1 (comparator_f32_d1 (F := Ideal)) x (ix2 r c) = x (ix2 r (ord x r c)) := by
  have hd : 1 < S16384x1000.rank := by decide
  unfold Host.sort
  rw [dif_pos hd]
  dsimp only
  simp only [comparator_lt]
  refine (congrArg x (along_row r c hd _)).trans ?_
  refine congrArg (fun k => x (ix2 r k)) (congrArg (fun R => sortedFrom (n := 1000) R c) (funext fun k => funext fun k' => ?_))
  exact congrArg₂ (fun a b => decide (x a < x b)) (along_row r c hd k) (along_row r c hd k')

/-- The argsort: the column numbers in the same order. -/
theorem argsort_apply (r : Fin 16384) (c : Fin 1000) :
    (Host.sort2 S16384x1000 1 (comparator_f32_i32_d1 (F := Ideal)) x (iotaInDim S16384x1000 32 1)).2 (ix2 r c)
      = BitVec.ofNat 32 (ord x r c).val := by
  have hd : 1 < S16384x1000.rank := by decide
  unfold Host.sort2
  rw [dif_pos hd]
  dsimp only
  simp only [comparator2_lt]
  refine (congrArg (iotaInDim S16384x1000 32 1) (along_row r c hd _)).trans ?_
  refine congrArg (fun k : Fin 1000 => BitVec.ofNat 32 k.val) (congrArg (fun R => sortedFrom (n := 1000) R c) (funext fun k => funext fun k' => ?_))
  exact congrArg₂ (fun a b => decide (x a < x b)) (along_row r c hd k) (along_row r c hd k')

/-! ## Columns and the gather -/

/-- One column of an array, as a flat vector. -/
theorem col_apply {α : Type} (f : S16384x1000.Idx → α) (k : ℕ) (hk : k < 1000) (h : S16384x1000.Slices ![0, k] S16384x1)
    (h' : S16384x1.ShapeCasts S16384) (r : Fin 16384) :
    shapeCast S16384 (extractStridedSlice S16384x1 ![0, k] f h) h' (ix1 r) = f (ix2 r ⟨k, hk⟩) := by
  refine (shapeCast_apply _ h' _ (ix2 r (0 : Fin 1)) ?_).trans ?_
  · rw [Shape.rowMajor_val_two, Shape.rowMajor_val_one]
    show r.val * 1 + 0 = r.val
    omega
  · unfold extractStridedSlice
    congr 1
    funext a
    match a with
    | ⟨0, _⟩ => exact Fin.ext (Nat.zero_add _)
    | ⟨1, _⟩ => rfl

/-- The gather of one element a row, at a row number and a column number. -/
theorem gather_apply {α : Type} (f : S16384x1000.Idx → α) (idx : IVec S16384x2 32) (r : Fin 16384) (i : Fin 16384) (c : Fin 1000)
    (h0 : (idx (ix2 r 0)).toInt.toNat = i.val) (h1 : (idx (ix2 r 1)).toInt.toNat = c.val) :
    Host.gather gather_S16384x1000_S16384x2_S16384_n_01_n_n_01_1_11 f idx (ix1 r) = f (ix2 i c) := by
  unfold Host.gather
  congr 1
  funext a
  refine Fin.ext ?_
  show GatherDims.start _ (ix1 r) idx a + GatherDims.batchCoord _ (ix1 r) a + GatherDims.offCoord _ (ix1 r) a = _
  have ha : a = 0 ∨ a = 1 := by
    match a with
    | ⟨0, _⟩ => exact Or.inl rfl
    | ⟨1, _⟩ => exact Or.inr rfl
  have hmem : a ∈ ([0, 1] : List (Fin 2)) := by rcases ha with rfl | rfl <;> decide
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show a ∈ gather_S16384x1000_S16384x2_S16384_n_01_n_n_01_1_11.startIndexMap from hmem)]
  rcases ha with rfl | rfl
  · have hsi : gather_S16384x1000_S16384x2_S16384_n_01_n_n_01_1_11.siIdx (ix1 r) ⟨List.idxOf (0 : Fin 2) [0, 1], List.idxOf_lt_length_iff.2 hmem⟩ = ix2 r 0 := by
      funext b; refine Fin.ext ?_
      match b with
      | ⟨0, _⟩ => rfl
      | ⟨1, _⟩ => rfl
    refine (congrArg (fun p => min (idx p).toInt.toNat 16383) hsi).trans ?_
    rw [h0]
    have := i.isLt
    show min i.val 16383 = i.val
    omega
  · have hsi : gather_S16384x1000_S16384x2_S16384_n_01_n_n_01_1_11.siIdx (ix1 r) ⟨List.idxOf (1 : Fin 2) [0, 1], List.idxOf_lt_length_iff.2 hmem⟩ = ix2 r 1 := by
      funext b; refine Fin.ext ?_
      match b with
      | ⟨0, _⟩ => rfl
      | ⟨1, _⟩ => rfl
    refine (congrArg (fun p => min (idx p).toInt.toNat 999) hsi).trans ?_
    rw [h1]
    have := c.isLt
    show min c.val 999 = c.val
    omega

/-- A word below 2³¹ is not negative: the index as given, not wrapped. -/
theorem not_wrapped (v w : BitVec 32) (hv : v.toNat < 16384) : Scalar.select (IntOp.cmpi .slt v 0#32) w v = v := by
  have h : v.slt 0#32 = false := by
    rw [BitVec.slt_eq_decide, decide_eq_false_iff_not, BitVec.toInt_eq_toNat_cond, BitVec.toInt_eq_toNat_cond]
    simp only [BitVec.toNat_ofNat]
    omega
  show Scalar.select (BitVec.ofBool (v.slt 0#32)) w v = v
  rw [h]; rfl

theorem toInt_toNat (v : BitVec 32) (hv : v.toNat < 16384) : v.toInt.toNat = v.toNat := by
  rw [BitVec.toInt_eq_toNat_cond]
  omega

/-- Two one-column arrays side by side, read at either column. -/
theorem pair_apply (p q : IVec S16384 32) (r : Fin 16384)
    (hb : S16384.BroadcastsInDim S16384x1 ![0]) (hc : Shape.Concatenates [S16384x1, S16384x1] S16384x2 1) :
    concatenate S16384x2 1 [⟨S16384x1, broadcastInDim S16384x1 ![0] hb p⟩, ⟨S16384x1, broadcastInDim S16384x1 ![0] hb q⟩] hc (ix2 r 0) = p (ix1 r)
      ∧ concatenate S16384x2 1 [⟨S16384x1, broadcastInDim S16384x1 ![0] hb p⟩, ⟨S16384x1, broadcastInDim S16384x1 ![0] hb q⟩] hc (ix2 r 1) = q (ix1 r) := by
  have hrow : ∀ g : IVec S16384 32, broadcastInDim S16384x1 ![0] hb g (ix2 r (0 : Fin 1)) = g (ix1 r) := by
    intro g
    unfold broadcastInDim
    congr 1
    funext a
    match a with
    | ⟨0, _⟩ => rfl
  constructor
  · refine (concatenate_pair_apply_left (t := S16384x2) (s₁ := S16384x1) (s₂ := S16384x1) (1 : Fin 2) _ _ hc (ix2 r 0) rfl (ix2 r (0 : Fin 1)) fun b => ?_).trans (hrow p)
    match b with
    | ⟨0, _⟩ => rfl
    | ⟨1, _⟩ => rfl
  · refine (concatenate_pair_apply_right (t := S16384x2) (s₁ := S16384x1) (s₂ := S16384x1) (1 : Fin 2) _ _ hc (ix2 r 1) rfl rfl (ix2 r (0 : Fin 1)) (fun b hb => ?_) rfl).trans (hrow q)
    match b with
    | ⟨0, _⟩ => rfl
    | ⟨1, _⟩ => exact absurd rfl hb

/-- The indicator: 1 where the words of two column numbers are equal, 0 elsewhere. -/
theorem indicator (a : Fin 1000) (v : BitVec 32) (b : Fin 1000) (hv : v.toNat = b.val) :
    (FloatOps.uitofp (F := Ideal) .f32 (IntOp.cmpi .eq (BitVec.ofNat 32 a.val) v) : EReal) = if a = b then 1 else 0 := by
  have e : IntOp.cmpi .eq (BitVec.ofNat 32 a.val) v = BitVec.ofBool (BitVec.ofNat 32 a.val == v) := rfl
  rw [e]
  by_cases h : a = b
  · have hw : BitVec.ofNat 32 a.val = v := by
      apply BitVec.eq_of_toNat_eq
      rw [BitVec.toNat_ofNat, hv, h]
      have := b.isLt
      omega
    rw [hw, beq_self_eq_true, if_pos h]
    show (((1#1 : BitVec 1).toNat : ℝ) : EReal) = 1
    norm_num
  · have hw : BitVec.ofNat 32 a.val ≠ v := by
      intro hw
      have := congrArg BitVec.toNat hw
      rw [BitVec.toNat_ofNat, hv] at this
      have h1 := a.isLt
      exact h (Fin.ext (by omega))
    rw [beq_eq_false_iff_ne.mpr hw, if_neg h]
    show (((0#1 : BitVec 1).toNat : ℝ) : EReal) = 0
    norm_num

theorem equal_apply (p q : IVec S16384 32) (j : S16384.Idx) :
    (uitofp (F := Ideal) .f32 (cmpi .eq p q) : S16384.Idx → EReal) j = FloatOps.uitofp (F := Ideal) .f32 (IntOp.cmpi .eq (p j) (q j)) := rfl

/-- The first argument flattened, read along row `r`. -/
theorem flat_row (h : S16384x1000.ShapeCasts Cert.KernelIdeal.S16384000) (r : Fin 16384) (c : Fin 1000) :
    rowG (F := Ideal) (shapeCast Cert.KernelIdeal.S16384000 x h) r.val c.val = x (ix2 r c) := by
  unfold rowG at1
  refine shapeCast_apply x h _ (ix2 r c) ?_
  rw [Shape.rowMajor_val_two, Shape.rowMajor_val_one]
  show r.val * 1000 + c.val = (r.val * 1000 + c.val) % 16384000
  have := r.isLt
  have := c.isLt
  omega

/-! ## The reference's run -/

section Run

variable (m : (ℓ : Loc nD τ sig) → Buf (Elt Ideal) ℓ) (ρ : Dev nD → PrngReg)

/-- The run: from targets that are columns, the reference ends with every row's result, as the kernel's `out` states it of the
    first argument flattened and the targets, and with its arguments unchanged. -/
theorem run_out (h : S16384x1000.ShapeCasts Cert.KernelIdeal.S16384000)
    (ht : ∀ (c : Dev nD) (r : S16384.Idx), (m ((c.tc : Thread nD τ).loc main_arg1) r : BitVec 32).toNat < 1000) :
    θ_run defs (onTc (τ := τ) (main (F := Ideal))) ⟨m, fun _ => 0, ρ⟩ fun r => ∀ c : Dev nD,
      r.2.mem ((c.tc : Thread nD τ).loc main_v39)
          = (out (F := Ideal) (shapeCast Cert.KernelIdeal.S16384000 (m ((c.tc : Thread nD τ).loc main_arg0) : S16384x1000.Idx → EReal) h)
              (m ((c.tc : Thread nD τ).loc main_arg1)) : S16384.Idx → EReal)
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (θ_run defs _ _).mono (fun s hs c => ⟨(hs c).1.trans (funext fun j => ?_), (hs c).2⟩) (Cert.ReferenceIdeal.Value.run m ρ)
  clear hs s
  have hj := ht c j
  revert hj
  generalize m ((c.tc : Thread nD τ).loc main_arg0) = x
  generalize m ((c.tc : Thread nD τ).loc main_arg1) = t
  intro hj
  obtain ⟨r, rfl⟩ : ∃ r : Fin 16384, j = ix1 r := ⟨j 0, eq_ix1 j⟩
  have hv : (t (ix1 r) : BitVec 32).toNat < 16384 := lt_trans hj (by decide)
  have hr : (BitVec.ofNat 32 r.val).toNat = r.val := by
    rw [BitVec.toNat_ofNat]
    have := r.isLt
    omega
  have hr' : (BitVec.ofNat 32 r.val).toNat < 16384 := by rw [hr]; exact r.isLt
  have key := rowOut_sorted (fun c => x (ix2 r c)) (ord x r) (ord_bijective x r) (ord_monotone x r) _ (flat_row x h r)
    ⟨(t (ix1 r) : BitVec 32).toNat, hj⟩ _ rfl
  have hind : ∀ hs hc, (uitofp (F := Ideal) .f32 (cmpi .eq (shapeCast S16384 (extractStridedSlice S16384x1 ![0, 999]
      (Host.sort2 S16384x1000 1 (comparator_f32_i32_d1 (F := Ideal)) x (iotaInDim S16384x1000 32 1)).2 hs) hc) t) : S16384.Idx → EReal) (ix1 r)
        = if ord x r 999 = ⟨(t (ix1 r) : BitVec 32).toNat, hj⟩ then 1 else 0 := by
    intro hs hc
    rw [equal_apply, col_apply _ 999 (by decide), argsort_apply]
    exact indicator (ord x r 999) (t (ix1 r)) ⟨(t (ix1 r) : BitVec 32).toNat, hj⟩ (Eq.refl _)
  refine Eq.trans ?_ key.symm
  change Ideal.div (-((_ - _ * _) - _ * (_ - _))) ((_ - _) + _) = _
  rw [gather_apply x _ r r ⟨(t (ix1 r) : BitVec 32).toNat, hj⟩
      (by
        rw [(pair_apply _ _ r _ _).1]
        show (Scalar.select (IntOp.cmpi .slt (BitVec.ofNat 32 r.val) 0#32) _ (BitVec.ofNat 32 r.val)).toInt.toNat = r.val
        rw [not_wrapped _ _ hr', toInt_toNat _ hr', hr])
      (by
        rw [(pair_apply _ _ r _ _).2]
        show (Scalar.select (IntOp.cmpi .slt (t (ix1 r)) 0#32) _ (t (ix1 r))).toInt.toNat = (t (ix1 r) : BitVec 32).toNat
        rw [not_wrapped _ _ hv, toInt_toNat _ hv]),
    col_apply _ 999 (by decide), col_apply _ 998 (by decide), col_apply _ 997 (by decide), sort_apply, sort_apply, sort_apply, hind]
  have weights : ∀ a b c d i e one : EReal, one = 1 →
      Ideal.div (-((a - b * i) - c * (one - i))) ((c - d) + e) = Ideal.div (-((a - b * i) - c * (1 - i))) ((c - d) + e) := by
    rintro a b c d i e one rfl; rfl
  exact weights _ _ _ _ _ _ _ Ideal.ofBits_one_f32

end Run

end Cert.Proof.Margin.Ref

end
-- ==== Proof.lean ====
/-
  The certificate (UNTRUSTED; Check.lean checks that it proves `Cert.Claim`). Five claims, in six parts: the kernel, its
  idealized form and the reference each run to completion with their arguments unchanged and every counter back at zero; the
  idealized form is the kernel with its stand-in for −∞ named; and, over the extended reals, the idealized kernel and the
  reference end with the same result.

  The kernel's run is proved once, over any float values (Proof/Tile.lean: one tile; Proof/Launch.lean: the launch and @main),
  with its result as the function `out` of the arguments (Proof/Spec.lean). Proof/Math.lean shows that a row of `out` is the
  quotient of the sorted row's last three places, Proof/Ref.lean that the reference computes it, and Proof/Pre.lean reads the
  precondition back.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Pre
public import proofs.«01_k».proof.Proof.Ref
public import Idealize.ShloMosaic.Adequacy
public import Idealize.ShloMosaic.Init
public import Idealize.ShloMosaic.Lib.Quiescent

@[expose] public section

noncomputable section

namespace Cert.Proof

open Idealize.ShloMosaic Idealize.SL.Sem

/-! ## The kernel's frame -/

section

/-- On float words a named constant is its own bits, so that the idealized kernel there is the kernel itself. -/
local instance namedBits : Named Bits where
  named _ _ _ bits := Scalar.ofBits _ bits

theorem frame_kernel [Cert.Kernel.Facts] [Cert.Pre_in_range.Facts] : Cert.quiescent_Kernel := fun m ρ hpre =>
  (θ_run Cert.Kernel.defs _ _).mono (fun _ h => ⟨fun c => (h.1 c).2, h.2⟩)
    (Margin.run_main (F := Bits) m ρ fun d r => Margin.targets_in_range _ _ (hpre d) r)

end

/-! ## The idealized kernel's and the reference's -/

theorem frame_ideal [Cert.KernelIdeal.Facts] [Cert.Pre_in_range.Facts] : Cert.quiescent_KernelIdeal := fun m ρ hpre =>
  (θ_run Cert.KernelIdeal.defs _ _).mono (fun _ h => ⟨fun c => (h.1 c).2, h.2⟩)
    (Margin.run_main (F := Ideal) m ρ fun d r => Margin.targets_in_range _ _ (hpre d) r)

theorem frame_reference [Cert.ReferenceIdeal.Facts] : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_in_range [Cert.ReferenceIdeal.Facts] [Cert.Pre_in_range.Facts] : Cert.quiescent_ReferenceIdeal_pre_in_range :=
  fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The idealization and the results -/

theorem preserves : Cert.preserves_Kernel_KernelIdeal := IdealRules.named_const.statement _ _ _ _ _ rfl

/-- Over the extended reals the kernel and the reference end with the same result. -/
theorem results_agree [Cert.KernelIdeal.Facts] [Cert.ReferenceIdeal.Facts] [Cert.Pre_in_range.Facts] :
    Cert.algebraic_KernelIdeal_ReferenceIdeal := fun m ρ m' ρ' hpre hargs => by
  have ht : Margin.PreOK (F := Ideal) m := fun d r => Margin.targets_in_range _ _ (hpre d) r
  refine ⟨fun c => Margin.res m c, (θ_run Cert.KernelIdeal.defs _ _).mono (fun _ h => h.1) (Margin.run_main (F := Ideal) m ρ ht), ?_⟩
  refine (θ_run Cert.ReferenceIdeal.defs _ _).mono (fun _ h c => ⟨(h c).1.trans ?_, (h c).2⟩)
    (Margin.Ref.run_out m' ρ' Cert.KernelIdeal.Gen.facts.shapeCasts_S16384x1000_S16384000 fun c r => ?_)
  · rw [(hargs c).2]; exact ht c r
  · rw [(hargs c).1, (hargs c).2]; rfl

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_in_range, preserves, results_agree⟩

end Cert.Proof

end
